-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S8192x2048 : Shape := ⟨2, ![8192, 2048]⟩
abbrev S2048x64 : Shape := ⟨2, ![2048, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S8192x2048 .f32) (main_arg1 : FVec F S2048x64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S8192x2048 : Shape := ⟨2, ![8192, 2048]⟩
abbrev S2048x64 : Shape := ⟨2, ![2048, 64]⟩
abbrev S8192x64 : Shape := ⟨2, ![8192, 64]⟩
abbrev S8192x8 : Shape := ⟨2, ![8192, 8]⟩
abbrev S64x1 : Shape := ⟨2, ![64, 1]⟩
abbrev S64 : Shape := ⟨1, ![64]⟩
abbrev S2048x2048 : Shape := ⟨2, ![2048, 2048]⟩
abbrev S2048x8 : Shape := ⟨2, ![2048, 8]⟩
abbrev S2048 : Shape := ⟨1, ![2048]⟩
abbrev S2048x1 : Shape := ⟨2, ![2048, 1]⟩
abbrev S64x2048 : Shape := ⟨2, ![64, 2048]⟩
abbrev S1x2048 : Shape := ⟨2, ![1, 2048]⟩
abbrev S8x2048 : Shape := ⟨2, ![8, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S8192x64, .f32⟩
  | .hbm, ⟨3, _⟩ => ⟨S8192x8, .f32⟩
  | .hbm, ⟨4, _⟩ => ⟨S8192x8, .i32⟩
  | .hbm, ⟨5, _⟩ => ⟨S64x1, .f32⟩
  | .hbm, ⟨6, _⟩ => ⟨S64, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x8, .f32⟩
  | .local _ .vmem, ⟨6, _⟩ => ⟨S2048x8, .f32⟩
  | .local _ .vmem, ⟨7, _⟩ => ⟨S2048x8, .i32⟩
  | .local _ .vmem, ⟨8, _⟩ => ⟨S2048x8, .i32⟩
  | .local _ .vmem, ⟨9, _⟩ => ⟨S64x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_call0_v0_3 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x2048 : Shape := ⟨2, ![8192, 2048]⟩
abbrev S2048x64 : Shape := ⟨2, ![2048, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8 : Shape := ⟨2, ![8192, 8]⟩
abbrev S65536 : Shape := ⟨1, ![65536]⟩
abbrev S64 : Shape := ⟨1, ![64]⟩
abbrev S65536x1 : Shape := ⟨2, ![65536, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S8192x8, .f32⟩
  | .hbm, ⟨18, _⟩ => ⟨S8192x8, .i32⟩
  | .hbm, ⟨19, _⟩ => ⟨S65536, .i32⟩
  | .hbm, ⟨20, _⟩ => ⟨S_, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S_, .i32⟩
  | .hbm, ⟨35, _⟩ => ⟨S65536, .i32⟩
  | .hbm, ⟨36, _⟩ => ⟨S64, .i32⟩
  | .hbm, ⟨37, _⟩ => ⟨S64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Ranks.lean ====
/-
  Ranks in a finite family of extended reals. Entry `a` is ahead of entry `b` when its value is greater, or equal with
  the earlier position; `rank v e` counts the entries ahead of `e`. Ranks number the positions, so `nth v k` is the
  position of rank `k`. A stable descending sort puts `nth v k` in place `k`, and removing the largest entry `k` times
  (earliest position first) removes exactly the entries of rank below `k`.
-/
module

public import Idealize.ShloMosaic.Lib.SortFacts
public import Idealize.ShloMosaic.Lib.Pointwise

@[expose] public section

noncomputable section

open Idealize.ShloMosaic

namespace Cert.Router

variable {n : Nat} (v : Fin n → EReal)

/-- Entry `a` is greater than entry `b`, or equal to it and earlier. -/
def Ahead (a b : Fin n) : Prop := v b < v a ∨ v a = v b ∧ a < b

instance (a b : Fin n) : Decidable (Ahead v a b) := Classical.propDecidable _

theorem Ahead.trans {a b c : Fin n} (h : Ahead v a b) (h' : Ahead v b c) : Ahead v a c := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem not_ahead_self (a : Fin n) : ¬ Ahead v a a := by
  rintro (h | ⟨-, h⟩) <;> exact lt_irrefl _ h

theorem ahead_or {a b : Fin n} (h : a ≠ b) : Ahead v a b ∨ Ahead v b a := by
  rcases lt_trichotomy (v a) (v b) with hv | hv | hv
  · exact .inr (.inl hv)
  · rcases lt_or_gt_of_ne h with hl | hl
    · exact .inl (.inr ⟨hv, hl⟩)
    · exact .inr (.inr ⟨hv.symm, hl⟩)
  · exact .inl (.inl hv)

/-- How many entries are ahead of `e`. -/
def rank (e : Fin n) : Nat := (Finset.univ.filter fun a => Ahead v a e).card

theorem rank_lt_rank {a b : Fin n} (h : Ahead v a b) : rank v a < rank v b := by
  refine Finset.card_lt_card (Finset.ssubset_iff_subset_ne.2 ⟨fun c hc => ?_, fun he => ?_⟩)
  · simp only [Finset.mem_filter, Finset.mem_univ, true_and] at hc ⊢
    exact hc.trans v h
  · have : a ∈ Finset.univ.filter fun c => Ahead v c a := by rw [he]; simpa using h
    exact not_ahead_self v a (by simpa using this)

theorem rank_lt (e : Fin n) : rank v e < n := by
  refine lt_of_lt_of_eq (Finset.card_lt_card (Finset.ssubset_iff_subset_ne.2 ⟨Finset.subset_univ _, fun he => ?_⟩))
    (by simp : (Finset.univ : Finset (Fin n)).card = n)
  have : e ∈ Finset.univ.filter fun a => Ahead v a e := by rw [he]; exact Finset.mem_univ e
  exact not_ahead_self v e (by simpa using this)

theorem rank_injective {a b : Fin n} (h : rank v a = rank v b) : a = b := by
  by_contra hne
  rcases ahead_or v hne with h' | h'
  · exact absurd h (rank_lt_rank v h').ne
  · exact absurd h (rank_lt_rank v h').ne'

/-- The ranks as a numbering of the positions. -/
def rankEquiv : Fin n ≃ Fin n :=
  Equiv.ofBijective (fun e => ⟨rank v e, rank_lt v e⟩)
    (Finite.injective_iff_bijective.1 fun _ _ h => rank_injective v (congrArg Fin.val h))

/-- The position of rank `k`. -/
def nth (k : Fin n) : Fin n := (rankEquiv v).symm k

theorem rank_nth (k : Fin n) : rank v (nth v k) = k.val :=
  congrArg Fin.val ((rankEquiv v).apply_symm_apply k)

theorem nth_eq {k e : Fin n} (h : rank v e = k.val) : nth v k = e :=
  rank_injective v ((rank_nth v k).trans h.symm)

/-- A family that orders its entries alike has the same ranks. -/
theorem ahead_congr {w : Fin n → EReal} (h : ∀ a b, w a < w b ↔ v a < v b) (a b : Fin n) : Ahead w a b ↔ Ahead v a b := by
  have he : w a = w b ↔ v a = v b := by
    rw [le_antisymm_iff, le_antisymm_iff, ← not_lt, ← not_lt, ← not_lt, ← not_lt, h, h]
  unfold Ahead
  rw [h, he]

theorem rank_congr {w : Fin n → EReal} (h : ∀ a b, w a < w b ↔ v a < v b) : rank w = rank v := by
  funext e
  unfold rank
  congr 1
  ext a
  simp only [Finset.mem_filter, Finset.mem_univ, true_and]
  exact ahead_congr v h a e

theorem nth_congr {w : Fin n → EReal} (h : ∀ a b, w a < w b ↔ v a < v b) (k : Fin n) : nth w k = nth v k :=
  nth_eq w ((congrFun (rank_congr v h) _).trans (rank_nth v k))

/-! ## The stable descending sort -/

theorem pairwise_insertBefore_ahead (R : Fin n → Fin n → Bool) (hR : ∀ a b, R a b = true ↔ v b < v a) (a : Fin n) (l : List (Fin n))
    (ha : ∀ b ∈ l, a < b) (hl : l.Pairwise (Ahead v)) : (insertBefore R a l).Pairwise (Ahead v) := by
  induction l with
  | nil => simp [insertBefore]
  | cons b l ih =>
    have hb := List.pairwise_cons.1 hl
    unfold insertBefore
    by_cases h : R b a = true
    · rw [if_pos h]
      refine List.pairwise_cons.2 ⟨fun c hc => ?_, ih (fun c hc => ha c (List.mem_cons_of_mem _ hc)) hb.2⟩
      rcases List.mem_cons.1 ((perm_insertBefore R a l).mem_iff.1 hc) with rfl | hc
      · exact .inl ((hR _ _).1 h)
      · exact hb.1 c hc
    · rw [if_neg h]
      have hab : Ahead v a b := by
        rcases (not_lt.1 fun h' => h ((hR _ _).2 h')).lt_or_eq with h' | h'
        · exact .inl h'
        · exact .inr ⟨h'.symm, ha b List.mem_cons_self⟩
      refine List.pairwise_cons.2 ⟨fun c hc => ?_, hl⟩
      rcases List.mem_cons.1 hc with rfl | hc
      · exact hab
      · exact hab.trans v (hb.1 c hc)

theorem pairwise_stableSort_ahead (R : Fin n → Fin n → Bool) (hR : ∀ a b, R a b = true ↔ v b < v a) (l : List (Fin n))
    (hl : l.Pairwise (· < ·)) : (stableSort R l).Pairwise (Ahead v) := by
  induction l with
  | nil => exact List.Pairwise.nil
  | cons a l ih =>
    have ha := List.pairwise_cons.1 hl
    exact pairwise_insertBefore_ahead v R hR a _ (fun b hb => ha.1 b ((perm_stableSort R l).mem_iff.1 hb)) (ih ha.2)

/-- The stable descending sort puts the position of rank `k` in place `k`. -/
theorem sortedFrom_eq_nth (R : Fin n → Fin n → Bool) (hR : ∀ a b, R a b = true ↔ v b < v a) (k : Fin n) :
    sortedFrom R k = nth v k := by
  have hp : (sortPositions n R).Pairwise (Ahead v) :=
    pairwise_stableSort_ahead v R hR _ (List.pairwise_lt_finRange n)
  have hm : StrictMono fun j => rankEquiv v (sortedFrom R j) := fun i j hij =>
    rank_lt_rank v (List.pairwise_iff_get.1 hp _ _ hij)
  have hs : Function.Surjective fun j => rankEquiv v (sortedFrom R j) := Finite.surjective_of_injective hm.injective
  have he : (fun j => rankEquiv v (sortedFrom R j)) = id :=
    (StrictMono.range_inj hm strictMono_id).1 (by rw [hs.range_eq, Set.range_id])
  exact (Equiv.eq_symm_apply _).2 (congrFun he k)

/-! ## Removing the largest entry again and again -/

/-- What is left after the entries of rank below `k` were replaced by `-∞`. -/
def remaining (k : Nat) (e : Fin n) : EReal := if rank v e < k then ⊥ else v e

theorem remaining_zero : remaining v 0 = v := by
  funext e
  exact if_neg (Nat.not_lt_zero _)

theorem remaining_nth (k : Fin n) : remaining v k.val (nth v k) = v (nth v k) :=
  if_neg (by rw [rank_nth]; exact lt_irrefl _)

/-- An entry not yet removed other than the next one is behind the next one. -/
theorem ahead_of_rank_le {k e : Fin n} (h : k.val ≤ rank v e) (hne : e ≠ nth v k) : Ahead v (nth v k) e := by
  rcases ahead_or v hne with h' | h'
  · exact absurd (rank_lt_rank v h') (by rw [rank_nth]; exact not_lt.2 h)
  · exact h'

theorem remaining_le (k e : Fin n) : remaining v k.val e ≤ v (nth v k) := by
  unfold remaining
  split_ifs with h
  · exact bot_le
  · by_cases hne : e = nth v k
    · rw [hne]
    · rcases ahead_of_rank_le v (not_lt.1 h) hne with h' | h'
      · exact h'.le
      · exact h'.1.ge

/-- The largest of what is left is the entry of rank `k`. -/
theorem fold_max_remaining (k : Fin n) : Finset.univ.fold max ⊥ (remaining v k.val) = v (nth v k) := by
  refine le_antisymm ?_ ?_
  · exact (Finset.fold_max_le _).2 ⟨bot_le, fun e _ => remaining_le v k e⟩
  · exact (Finset.le_fold_max _).2 (.inr ⟨nth v k, Finset.mem_univ _, (remaining_nth v k).ge⟩)

/-- Of the positions holding that largest, the entry of rank `k` is the first. -/
theorem nth_le_of_remaining_eq (hv : ∀ e, v e ≠ ⊥) {k e : Fin n} (h : remaining v k.val e = v (nth v k)) : nth v k ≤ e := by
  unfold remaining at h
  split_ifs at h with hk
  · exact absurd h.symm (hv _)
  · by_cases hne : e = nth v k
    · exact hne.ge
    · rcases ahead_of_rank_le v (not_lt.1 hk) hne with h' | h'
      · exact absurd h h'.ne
      · exact h'.2.le

/-- Removing the entry of rank `k` leaves the entries of rank above `k`. -/
theorem remaining_succ (k e : Fin n) : (if e = nth v k then ⊥ else remaining v k.val e) = remaining v (k.val + 1) e := by
  by_cases he : e = nth v k
  · rw [if_pos he, he]
    exact (if_pos (by rw [rank_nth]; exact Nat.lt_succ_self _)).symm
  · rw [if_neg he]
    unfold remaining
    have hne : rank v e ≠ k.val := fun h => he (nth_eq v h).symm
    by_cases h : rank v e < k.val
    · rw [if_pos h, if_pos (by omega)]
    · rw [if_neg h, if_neg (by omega)]

/-- What is left is `-∞` exactly at the entries removed. -/
theorem remaining_eq_bot (hv : ∀ e, v e ≠ ⊥) (k : Nat) (e : Fin n) : remaining v k e = ⊥ ↔ rank v e < k := by
  unfold remaining
  split_ifs with h
  · simp [h]
  · simp [h, hv e]

end Cert.Router
-- ==== Proof.Spec.lean ====
/-
  The four results as functions of the two arguments: the softmax over each row's 64 logits, the weights and numbers of
  its eight best experts, and how many rows each expert is among the best eight of.
-/
module

public import proofs.«01_k».proof.Proof.Ranks
public import proofs.«01_k».proof.KernelIdeal
public import Idealize.ShloMosaic.PureOps.Ideal

@[expose] public section

noncomputable section

open Idealize.ShloMosaic

namespace Cert.Router

open Cert.KernelIdeal

/-- The greatest of a row's logits. -/
def peak (v : Fin 64 → EReal) : EReal := Finset.univ.fold max ⊥ v

/-- The sum of the exponentials of a row's logits less the greatest. -/
def mass (v : Fin 64 → EReal) : EReal := ∑ e, Ideal.exp (v e - peak v)

/-- The softmax of a row's logits. -/
def score (v : Fin 64 → EReal) (e : Fin 64) : EReal := Ideal.div (Ideal.exp (v e - peak v)) (mass v)

/-- The position of the entry of rank `k`, for one of the first eight ranks. -/
def best (v : Fin 64 → EReal) (k : Fin 8) : Fin 64 := nth v (Fin.castLE (by decide) k)

variable (x : FVec Ideal S8192x2048 .f32) (w : FVec Ideal S2048x64 .f32)

/-- A row's logits. -/
def logits (r : Fin 8192) (e : Fin 64) : EReal := ∑ k : Fin 2048, x (ix2 r k) * w (ix2 k e)

/-- Result 1: the scores. -/
def scores : FVec Ideal S8192x64 .f32 := fun i => score (logits x w (i 0)) (i 1)

/-- Result 2: the scores of the eight best experts of each row. -/
def bestScores : FVec Ideal S8192x8 .f32 := fun i => score (logits x w (i 0)) (best (logits x w (i 0)) (i 1))

/-- Result 3: their numbers. -/
def bestExperts : IVec S8192x8 32 := fun i => BitVec.ofNat 32 (best (logits x w (i 0)) (i 1)).val

/-- One when the expert is among the row's best eight, zero otherwise. -/
def chosen (e : Fin 64) (r : Fin 8192) : EReal := if rank (logits x w r) e < 8 then 1 else 0

/-- Result 4: how many rows chose each expert. -/
def loads : FVec Ideal S64 .f32 := fun i => ∑ r : Fin 8192, chosen x w (i 0) r

end Cert.Router
-- ==== Proof.Rounds.lean ====
/-
  One block of the router kernel as named steps: the greatest entry of each column, the first place holding it, and the
  block with that place replaced by `-∞`; eight rounds of these give the weights, the expert numbers and the taken
  entries. Here only the definitions, at the extended reals.
-/
module

public import proofs.«01_k».proof.Proof.Gen.KernelIdeal.Skeleton
public import Idealize.ShloMosaic.PureOps.Ideal

@[expose] public section

noncomputable section

open Idealize.ShloMosaic

namespace Cert.KernelIdeal.Rounds

open Cert.KernelIdeal.Gen

/-- The greatest entry of each column. -/
def top (w : FVec Ideal S64x2048 .f32) : FVec Ideal S1x2048 .f32 :=
  shapeCast S1x2048 (multiReduction .maximumf [0] S2048 w 0xFF800000#32 reduces_S64x2048_S2048 (.inl rfl) rfl) shapeCasts_S2048_S1x2048

/-- Each entry's own row number. -/
def rows : IVec S64x2048 32 := iota .tc S64x2048 32 [0] iota_S64x2048_d0_w32

/-- The first row of each column holding the column's greatest entry. -/
def pick (w : FVec Ideal S64x2048 .f32) : IVec S1x2048 32 :=
  shapeCast S1x2048
    (multiReductionI .minsi [0] S2048
      (select (cmpf .oeq w (broadcastTo S64x2048 (top w) broadcasts_S1x2048_S64x2048)) rows (broadcast S64x2048 64#32))
      2147483647#32 reduces_S64x2048_S2048 rfl)
    shapeCasts_S2048_S1x2048

/-- The block with each column's picked entry replaced by `-∞`. -/
def strike (w : FVec Ideal S64x2048 .f32) : FVec Ideal S64x2048 .f32 :=
  select (cmpi .eq rows (broadcastTo S64x2048 (pick w) broadcasts_S1x2048_S64x2048))
    (broadcast S64x2048 (Scalar.ofBits .f32 0xFF800000#32)) w

/-- The block after `k` rounds. -/
def after (w : FVec Ideal S64x2048 .f32) : Nat → FVec Ideal S64x2048 .f32
  | 0 => w
  | k + 1 => strike (after w k)

/-- The sum over each column of the exponentials of its entries less the column's greatest. -/
def mass (w : FVec Ideal S64x2048 .f32) : FVec Ideal S1x2048 .f32 :=
  shapeCast S1x2048
    (multiReduction .add [0] S2048 (exp (subf w (broadcastTo S64x2048 (top w) broadcasts_S1x2048_S64x2048))) 0x00000000#32
      reduces_S64x2048_S2048 (.inl rfl) rfl)
    shapeCasts_S2048_S1x2048

/-- The weight round `k` writes. -/
def weight (w : FVec Ideal S64x2048 .f32) (k : Nat) : FVec Ideal S1x2048 .f32 :=
  divf (exp (subf (top (after w k)) (top w))) (mass w)

/-- The eight weights side by side. -/
def weights (w : FVec Ideal S64x2048 .f32) : FVec Ideal S2048x8 .f32 :=
  transpose S2048x8 [1, 0]
    (concatenate S8x2048 0 [⟨S1x2048, weight w 0⟩, ⟨S1x2048, weight w 1⟩, ⟨S1x2048, weight w 2⟩, ⟨S1x2048, weight w 3⟩,
      ⟨S1x2048, weight w 4⟩, ⟨S1x2048, weight w 5⟩, ⟨S1x2048, weight w 6⟩, ⟨S1x2048, weight w 7⟩]
      concatenates_S1x2048_S1x2048_S1x2048_S1x2048_S1x2048_S1x2048_S1x2048_S1x2048_S8x2048_d0)
    transposes_S8x2048_p1_0_S2048x8

/-- The eight picked rows side by side. -/
def picks (w : FVec Ideal S64x2048 .f32) : IVec S2048x8 32 :=
  transpose S2048x8 [1, 0]
    (concatenate S8x2048 0 [⟨S1x2048, pick (after w 0)⟩, ⟨S1x2048, pick (after w 1)⟩, ⟨S1x2048, pick (after w 2)⟩,
      ⟨S1x2048, pick (after w 3)⟩, ⟨S1x2048, pick (after w 4)⟩, ⟨S1x2048, pick (after w 5)⟩, ⟨S1x2048, pick (after w 6)⟩,
      ⟨S1x2048, pick (after w 7)⟩]
      concatenates_S1x2048_S1x2048_S1x2048_S1x2048_S1x2048_S1x2048_S1x2048_S1x2048_S8x2048_d0)
    transposes_S8x2048_p1_0_S2048x8

/-- One where a block holds `-∞`, zero elsewhere. -/
def taken (w : FVec Ideal S64x2048 .f32) : FVec Ideal S64x2048 .f32 :=
  sitofp .f32 (extui 32 (cmpf .oeq w (broadcast S64x2048 (Scalar.ofBits .f32 0xFF800000#32))) natLt_1_32)

/-- How many columns each row was taken in, added to a running count. -/
def tally (w : FVec Ideal S64x2048 .f32) (acc : Vec Ideal S64x1 .f32) : FVec Ideal S64x1 .f32 :=
  addf (shapeCast S64x1 acc shapeCasts_S64x1_S64x1)
    (shapeCast S64x1
      (multiReduction .add [1] S64
        (taken (after w 8)) 0x00000000#32 reduces_S64x2048_S64 (.inl rfl) rfl)
      shapeCasts_S64_S64x1)

end Cert.KernelIdeal.Rounds
-- ==== Proof.Columns.lean ====
/-
  One column of the block through the rounds: after `k` rounds the entries of rank below `k` are `-∞`, the greatest
  entry left is the one of rank `k`, and the picked row is its position.
-/
module

public import proofs.«01_k».proof.Proof.Ranks
public import proofs.«01_k».proof.Proof.Rounds
public import Idealize.ShloMosaic.Lib.Pointwise

@[expose] public section

set_option maxRecDepth 16384

noncomputable section

open Idealize.ShloMosaic

namespace Cert.KernelIdeal.Rounds

open Cert.KernelIdeal.Gen Cert.Router

theorem ofBits_negInf : (Scalar.ofBits .f32 0xFF800000#32 : Ideal .f32) = (⊥ : EReal) := by
  rfl

theorem top_apply (w : FVec Ideal S64x2048 .f32) (j : Fin 2048) :
    top w (ix2 0 j) = Finset.univ.fold max (⊥ : EReal) fun e : Fin 64 => w (ix2 e j) := by
  pointwise [top]
  rfl

theorem mass_apply (w : FVec Ideal S64x2048 .f32) (j : Fin 2048) :
    mass w (ix2 0 j) = ∑ e : Fin 64, Ideal.exp (w (ix2 e j) - top w (ix2 0 j)) := by
  pointwise [mass]

theorem pick_apply (w : FVec Ideal S64x2048 .f32) (j : Fin 2048) :
    pick w (ix2 0 j) = Finset.univ.fold IntOp.minsi 2147483647#32 fun e : Fin 64 =>
      if w (ix2 e j) = top w (ix2 0 j) then BitVec.ofNat 32 e.val else 64#32 := by
  pointwise [pick, rows]

theorem strike_apply (w : FVec Ideal S64x2048 .f32) (e : Fin 64) (j : Fin 2048) :
    strike w (ix2 e j) = if BitVec.ofNat 32 e.val = pick w (ix2 0 j) then ⊥ else w (ix2 e j) := by
  pointwise [strike, rows]
  rw [show Ideal.ofBits .f32 0xFF800000#32 = (⊥ : EReal) from rfl]
  by_cases h : BitVec.ofNat 32 e.val = pick w (ix2 0 j)
  · rw [if_pos h]; simp [Scalar.select, IntOp.cmpi, h]
  · rw [if_neg h]; simp [Scalar.select, IntOp.cmpi, beq_eq_false_iff_ne.2 h]

theorem weight_apply (w : FVec Ideal S64x2048 .f32) (k : Nat) (j : Fin 2048) :
    weight w k (ix2 0 j) = Ideal.div (Ideal.exp (top (after w k) (ix2 0 j) - top w (ix2 0 j))) (mass w (ix2 0 j)) := by
  pointwise [weight]

theorem weights_apply (w : FVec Ideal S64x2048 .f32) (j : Fin 2048) (k : Fin 8) :
    weights w (ix2 j k) = weight w k.val (ix2 0 j) := by
  pointwise [weights]
  fin_vals k with hk <;> simp only [hk, Nat.reduceSub, Nat.reduceLT, ↓reduceDIte] <;> rfl

theorem picks_apply (w : FVec Ideal S64x2048 .f32) (j : Fin 2048) (k : Fin 8) :
    picks w (ix2 j k) = pick (after w k.val) (ix2 0 j) := by
  pointwise [picks]
  fin_vals k with hk <;> simp only [hk, Nat.reduceSub, Nat.reduceLT, ↓reduceDIte] <;> rfl

theorem taken_apply (w : FVec Ideal S64x2048 .f32) (i : S64x2048.Idx) :
    taken w i = if w i = ⊥ then (1 : EReal) else 0 := by
  show (((BitVec.setWidth 32 (BitVec.ofBool (decide (w i = (⊥ : EReal))))).toInt : ℝ) : EReal) = _
  by_cases h : w i = (⊥ : EReal)
  · simp [h]
  · simp [h]

theorem tally_apply (w : FVec Ideal S64x2048 .f32) (acc : Vec Ideal S64x1 .f32) (e : Fin 64) :
    tally w acc (ix2 e 0) = acc (ix2 e 0) + ∑ j : Fin 2048, taken (after w 8) (ix2 e j) := by
  pointwise [tally]

/-! ## The rounds on one column -/

theorem fold_minsi {ι : Type} (s : Finset ι) (b : BitVec 32) (f : ι → BitVec 32) :
    (s.fold IntOp.minsi b f).toInt = s.fold min b.toInt fun e => (f e).toInt := by
  refine (Finset.fold_hom (op := IntOp.minsi) (op' := min) (m := BitVec.toInt) fun x y => ?_).symm
  unfold IntOp.minsi
  rw [BitVec.slt_eq_decide]
  by_cases h : x.toInt < y.toInt
  · rw [if_pos (decide_eq_true h), min_eq_left h.le]
  · rw [if_neg (by simpa using h), min_eq_right (not_lt.1 h)]

/-- The first row at which a condition holds, by the smallest of the row numbers put there, with 64 elsewhere. -/
theorem fold_minsi_first (P : Fin 64 → Prop) [DecidablePred P] (a : Fin 64) (ha : P a) (hmin : ∀ e, P e → a ≤ e) :
    (Finset.univ.fold IntOp.minsi 2147483647#32 fun e : Fin 64 => if P e then BitVec.ofNat 32 e.val else 64#32)
      = BitVec.ofNat 32 a.val := by
  have hto : ∀ e : Fin 64, (BitVec.ofNat 32 e.val).toInt = e.val := by decide
  refine BitVec.eq_of_toInt_eq ?_
  rw [fold_minsi, hto]
  refine le_antisymm ((Finset.fold_min_le _).2 (.inr ⟨a, Finset.mem_univ _, ?_⟩)) ((Finset.le_fold_min _).2 ⟨?_, fun e _ => ?_⟩)
  · rw [if_pos ha, hto]
  · have := a.isLt
    show (a.val : Int) ≤ 2147483647
    omega
  · by_cases h : P e
    · rw [if_pos h, hto]
      exact_mod_cast hmin e h
    · rw [if_neg h]
      have := a.isLt
      show (a.val : Int) ≤ 64
      omega

variable (w : FVec Ideal S64x2048 .f32) (j : Fin 2048)

/-- A column of a block. -/
abbrev column (e : Fin 64) : EReal := w (ix2 e j)

/-- When a column holds what is left after `k` rounds, its greatest entry is the one of rank `k`, … -/
theorem top_of_remaining {v : Fin 64 → EReal} (k : Fin 64) (hw : ∀ e, w (ix2 e j) = remaining v k.val e) :
    top w (ix2 0 j) = v (nth v k) := by
  rw [top_apply, ← fold_max_remaining v k]
  exact congrArg (fun f => Finset.univ.fold max ⊥ f) (funext hw)

/-- … the picked row is its position, … -/
theorem pick_of_remaining {v : Fin 64 → EReal} (hv : ∀ e, v e ≠ ⊥) (k : Fin 64) (hw : ∀ e, w (ix2 e j) = remaining v k.val e) :
    pick w (ix2 0 j) = BitVec.ofNat 32 (nth v k).val := by
  rw [pick_apply, top_of_remaining w j k hw]
  refine fold_minsi_first (fun e => w (ix2 e j) = v (nth v k)) (nth v k) ((hw _).trans (remaining_nth v k)) fun e he => ?_
  exact nth_le_of_remaining_eq v hv ((hw e).symm.trans he)

/-- … and the next round leaves one entry less. -/
theorem strike_of_remaining {v : Fin 64 → EReal} (hv : ∀ e, v e ≠ ⊥) (k : Fin 64) (hw : ∀ e, w (ix2 e j) = remaining v k.val e)
    (e : Fin 64) : strike w (ix2 e j) = remaining v (k.val + 1) e := by
  rw [strike_apply, pick_of_remaining w j hv k hw, hw, ← remaining_succ v k e]
  have hi : BitVec.ofNat 32 e.val = BitVec.ofNat 32 (nth v k).val ↔ e = nth v k := by
    refine ⟨fun h => Fin.ext ?_, fun h => h ▸ rfl⟩
    have := congrArg BitVec.toNat h
    simp only [BitVec.toNat_ofNat] at this
    omega
  simp only [hi]

variable (hv : ∀ e, column w j e ≠ ⊥)

include hv

theorem after_apply (k : Nat) (hk : k ≤ 64) (e : Fin 64) : after w k (ix2 e j) = remaining (column w j) k e := by
  induction k generalizing e with
  | zero => rw [remaining_zero]; rfl
  | succ k ih => exact strike_of_remaining _ j hv ⟨k, hk⟩ (fun e => ih (Nat.le_of_succ_le hk) e) e

theorem pick_after (k : Fin 64) : pick (after w k.val) (ix2 0 j) = BitVec.ofNat 32 (nth (column w j) k).val :=
  pick_of_remaining _ j hv k fun e => after_apply w j hv k.val k.isLt.le e

theorem top_after (k : Fin 64) : top (after w k.val) (ix2 0 j) = column w j (nth (column w j) k) :=
  top_of_remaining _ j k fun e => after_apply w j hv k.val k.isLt.le e

theorem taken_after (e : Fin 64) :
    taken (after w 8) (ix2 e j) = if rank (column w j) e < 8 then (1 : EReal) else 0 := by
  rw [taken_apply, after_apply w j hv 8 (by decide) e]
  simp only [remaining_eq_bot (column w j) hv]

end Cert.KernelIdeal.Rounds
-- ==== Proof.Pieces.lean ====
/-
  What one grid point leaves in the four output blocks: the named rounds of the two blocks it reads, and the running
  count started from zero at the first point and from the previous point's count after it.
-/
module

public import proofs.«01_k».proof.Proof.Rounds
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem

namespace Cert.KernelIdeal.Rounds

open Cert.KernelIdeal.Gen

theorem hz : (![0, 0] : Fin 2 → Nat) = fun _ => 0 := by decide

section Opened

variable (c : Dev nD) (i : grid0.Coords) (arg1 : Memref sig .tc .vmem S2048x2048 .f32) (harg1 : arg1.IsWhole)
  (arg2 : Memref sig .tc .vmem S2048x64 .f32) (harg2 : arg2.IsWhole) (arg3 : Memref sig .tc .vmem S2048x64 .f32) (harg3 : arg3.IsWhole)
  (arg4 : Memref sig .tc .vmem S2048x8 .f32) (harg4 : arg4.IsWhole) (arg5 : Memref sig .tc .vmem S2048x8 .i32) (harg5 : arg5.IsWhole)
  (arg6 : Memref sig .tc .vmem S64x1 .f32) (harg6 : arg6.IsWhole)
  (x0 : Vec Ideal S2048x2048 .f32) (x1 : Vec Ideal S2048x64 .f32)

theorem first_scores (hc0 : cond0_0 i) :
    out0_A_2 (F := Ideal) c i arg1 harg1 arg2 harg2 arg3 harg3 arg4 harg4 arg5 harg5 arg6 harg6 hc0 x0 x1 = k0_pay6 x0 x1 := by
  unfold out0_A_2
  rw [View.read_writes_eq_canon _ _ _ (cover0_A_2 c i arg1 harg1 arg2 harg2 arg3 harg3 arg4 harg4 arg5 harg5 arg6 harg6 hc0 x0 x1)]
  unfold kernelRun0_A
  dsimp only
  sl_unfold_words
  rw [View.canon_unit_zero (S := S2048x64) hz]
  simp only [View.readAt_eq_ld, harg1.read_unread, harg2.read_unread, harg6.read_unread, View.ld_unit_zero (S := S2048x2048) hz,
    View.ld_unit_zero (S := S2048x64) hz, View.ld_unit_zero (S := S64x1) hz]

theorem first_weights (hc0 : cond0_0 i) :
    out0_A_3 (F := Ideal) c i arg1 harg1 arg2 harg2 arg3 harg3 arg4 harg4 arg5 harg5 arg6 harg6 hc0 x0 x1 = weights (k0_pay7 x0 x1) := by
  unfold out0_A_3
  rw [View.read_writes_eq_canon _ _ _ (cover0_A_3 c i arg1 harg1 arg2 harg2 arg3 harg3 arg4 harg4 arg5 harg5 arg6 harg6 hc0 x0 x1)]
  unfold kernelRun0_A
  dsimp only
  sl_unfold_words
  rw [View.canon_unit_zero (S := S2048x8) hz]
  simp only [View.readAt_eq_ld, harg1.read_unread, harg2.read_unread, harg6.read_unread, View.ld_unit_zero (S := S2048x2048) hz,
    View.ld_unit_zero (S := S2048x64) hz, View.ld_unit_zero (S := S64x1) hz]
  rfl

theorem first_picks (hc0 : cond0_0 i) :
    out0_A_4 (F := Ideal) c i arg1 harg1 arg2 harg2 arg3 harg3 arg4 harg4 arg5 harg5 arg6 harg6 hc0 x0 x1 = picks (k0_pay7 x0 x1) := by
  unfold out0_A_4
  rw [View.read_writes_eq_canon _ _ _ (cover0_A_4 c i arg1 harg1 arg2 harg2 arg3 harg3 arg4 harg4 arg5 harg5 arg6 harg6 hc0 x0 x1)]
  unfold kernelRun0_A
  dsimp only
  sl_unfold_words
  rw [View.canon_unit_zero (S := S2048x8) hz]
  simp only [View.readAt_eq_ld, harg1.read_unread, harg2.read_unread, harg6.read_unread, View.ld_unit_zero (S := S2048x2048) hz,
    View.ld_unit_zero (S := S2048x64) hz, View.ld_unit_zero (S := S64x1) hz]
  rfl

theorem first_tally (hc0 : cond0_0 i) :
    out0_A_5 (F := Ideal) c i arg1 harg1 arg2 harg2 arg3 harg3 arg4 harg4 arg5 harg5 arg6 harg6 hc0 x0 x1 = tally (k0_pay7 x0 x1) (k0_pay3 (F := Ideal)) := by
  unfold out0_A_5
  rw [View.read_writes_eq_canon _ _ _ (cover0_A_5 c i arg1 harg1 arg2 harg2 arg3 harg3 arg4 harg4 arg5 harg5 arg6 harg6 hc0 x0 x1)]
  unfold kernelRun0_A
  dsimp only
  sl_unfold_words
  rw [View.canon_cons_unit_zero (S := S64x1) hz, View.readCov_unit_zero (S := S64x1) _ hz]
  simp only [View.readAt_eq_ld, harg1.read_unread, harg2.read_unread, harg6.read_unread, View.ld_unit_zero (S := S2048x2048) hz,
    View.ld_unit_zero (S := S2048x64) hz, View.ld_unit_zero (S := S64x1) hz]
  rfl

theorem later_scores (hc0 : ¬cond0_0 i) (acc : Vec Ideal S64x1 .f32) :
    out0_B_2 (F := Ideal) c i arg1 harg1 arg2 harg2 arg3 harg3 arg4 harg4 arg5 harg5 arg6 harg6 hc0 x0 x1 acc = k0_pay6 x0 x1 := by
  unfold out0_B_2
  rw [View.read_writes_eq_canon _ _ _ (cover0_B_2 c i arg1 harg1 arg2 harg2 arg3 harg3 arg4 harg4 arg5 harg5 arg6 harg6 hc0 x0 x1 acc)]
  unfold kernelRun0_B
  dsimp only
  sl_unfold_words
  rw [View.canon_unit_zero (S := S2048x64) hz]
  simp only [View.readAt_eq_ld, harg1.read_unread, harg2.read_unread, harg6.read_unread, View.ld_unit_zero (S := S2048x2048) hz,
    View.ld_unit_zero (S := S2048x64) hz, View.ld_unit_zero (S := S64x1) hz]

theorem later_weights (hc0 : ¬cond0_0 i) (acc : Vec Ideal S64x1 .f32) :
    out0_B_3 (F := Ideal) c i arg1 harg1 arg2 harg2 arg3 harg3 arg4 harg4 arg5 harg5 arg6 harg6 hc0 x0 x1 acc = weights (k0_pay7 x0 x1) := by
  unfold out0_B_3
  rw [View.read_writes_eq_canon _ _ _ (cover0_B_3 c i arg1 harg1 arg2 harg2 arg3 harg3 arg4 harg4 arg5 harg5 arg6 harg6 hc0 x0 x1 acc)]
  unfold kernelRun0_B
  dsimp only
  sl_unfold_words
  rw [View.canon_unit_zero (S := S2048x8) hz]
  simp only [View.readAt_eq_ld, harg1.read_unread, harg2.read_unread, harg6.read_unread, View.ld_unit_zero (S := S2048x2048) hz,
    View.ld_unit_zero (S := S2048x64) hz, View.ld_unit_zero (S := S64x1) hz]
  rfl

theorem later_picks (hc0 : ¬cond0_0 i) (acc : Vec Ideal S64x1 .f32) :
    out0_B_4 (F := Ideal) c i arg1 harg1 arg2 harg2 arg3 harg3 arg4 harg4 arg5 harg5 arg6 harg6 hc0 x0 x1 acc = picks (k0_pay7 x0 x1) := by
  unfold out0_B_4
  rw [View.read_writes_eq_canon _ _ _ (cover0_B_4 c i arg1 harg1 arg2 harg2 arg3 harg3 arg4 harg4 arg5 harg5 arg6 harg6 hc0 x0 x1 acc)]
  unfold kernelRun0_B
  dsimp only
  sl_unfold_words
  rw [View.canon_unit_zero (S := S2048x8) hz]
  simp only [View.readAt_eq_ld, harg1.read_unread, harg2.read_unread, harg6.read_unread, View.ld_unit_zero (S := S2048x2048) hz,
    View.ld_unit_zero (S := S2048x64) hz, View.ld_unit_zero (S := S64x1) hz]
  rfl

theorem later_tally (hc0 : ¬cond0_0 i) (acc : Vec Ideal S64x1 .f32) :
    out0_B_5 (F := Ideal) c i arg1 harg1 arg2 harg2 arg3 harg3 arg4 harg4 arg5 harg5 arg6 harg6 hc0 x0 x1 acc = tally (k0_pay7 x0 x1) acc := by
  unfold out0_B_5
  rw [View.read_writes_eq_canon _ _ _ (cover0_B_5 c i arg1 harg1 arg2 harg2 arg3 harg3 arg4 harg4 arg5 harg5 arg6 harg6 hc0 x0 x1 acc)]
  unfold kernelRun0_B
  dsimp only
  sl_unfold_words
  rw [View.canon_unit_zero (S := S64x1) hz]
  simp only [View.readAt_eq_ld, harg1.read_unread, harg2.read_unread, harg6.read_unread, View.ld_unit_zero (S := S2048x2048) hz,
    View.ld_unit_zero (S := S2048x64) hz, View.ld_unit_zero (S := S64x1) hz]
  rfl

end Opened

end Cert.KernelIdeal.Rounds
-- ==== Proof.Block.lean ====
/-
  One grid point's blocks as values of the arguments: point `t` holds rows `2048 t …`, and what it leaves in the first
  three outputs is the scores, best scores and best experts of these rows.
-/
module

public import proofs.«01_k».proof.Proof.Spec
public import proofs.«01_k».proof.Proof.Columns
public import proofs.«01_k».proof.Proof.Pieces
public import Idealize.ShloMosaic.Lib.Pipeline.ValueKit

@[expose] public section

set_option maxRecDepth 16384

noncomputable section

open Idealize.ShloMosaic Idealize.ShloMosaic.TcCoe Idealize.SL.Sem

namespace Cert.KernelIdeal.Rounds

open Cert.KernelIdeal.Gen Cert.Router

/-! ## From the block of logits -/

section Pure

variable (x0 : Vec Ideal S2048x2048 .f32) (x1 : Vec Ideal S2048x64 .f32)

theorem logits_apply (r : Fin 2048) (e : Fin 64) :
    k0_pay5 x0 x1 (ix2 r e) = ∑ k : Fin 2048, x0 (ix2 r k) * x1 (ix2 k e) := by
  pointwise [k0_pay5]

theorem turned_apply (e : Fin 64) (r : Fin 2048) : k0_pay7 x0 x1 (ix2 e r) = k0_pay5 x0 x1 (ix2 r e) := by
  pointwise [k0_pay7]

theorem scores_apply (r : Fin 2048) (e : Fin 64) :
    k0_pay6 x0 x1 (ix2 r e) = score (fun e => k0_pay5 x0 x1 (ix2 r e)) e := by
  pointwise [k0_pay6]
  rfl

/-- A column of the turned block is the row's logits. -/
theorem column_turned (r : Fin 2048) : column (k0_pay7 x0 x1) r = fun e => k0_pay5 x0 x1 (ix2 r e) :=
  funext fun e => turned_apply x0 x1 e r

variable (r : Fin 2048) (hv : ∀ e, k0_pay5 x0 x1 (ix2 r e) ≠ (⊥ : EReal))

include hv

theorem picks_turned (k : Fin 8) :
    picks (k0_pay7 x0 x1) (ix2 r k) = BitVec.ofNat 32 (best (fun e => k0_pay5 x0 x1 (ix2 r e)) k).val := by
  have h := pick_after (k0_pay7 x0 x1) r (fun e => by rw [column_turned]; exact hv e) (Fin.castLE (by decide) k)
  rw [column_turned] at h
  exact (picks_apply _ r k).trans h

theorem weights_turned (k : Fin 8) :
    weights (k0_pay7 x0 x1) (ix2 r k)
      = score (fun e => k0_pay5 x0 x1 (ix2 r e)) (best (fun e => k0_pay5 x0 x1 (ix2 r e)) k) := by
  have ht := top_after (k0_pay7 x0 x1) r (fun e => by rw [column_turned]; exact hv e) (Fin.castLE (by decide) k)
  have h0 : top (k0_pay7 x0 x1) (ix2 0 r) = peak (fun e => k0_pay5 x0 x1 (ix2 r e)) := by
    rw [top_apply, ← column_turned]
    rfl
  have hm : Rounds.mass (k0_pay7 x0 x1) (ix2 0 r) = Router.mass (fun e => k0_pay5 x0 x1 (ix2 r e)) := by
    rw [mass_apply, h0]
    exact Finset.sum_congr rfl fun e _ => by rw [turned_apply]
  rw [column_turned, Fin.val_castLE] at ht
  rw [weights_apply, weight_apply, hm, h0, ht]
  rfl

theorem taken_turned (e : Fin 64) :
    taken (after (k0_pay7 x0 x1) 8) (ix2 e r) = if rank (fun e => k0_pay5 x0 x1 (ix2 r e)) e < 8 then (1 : EReal) else 0 := by
  rw [taken_after (k0_pay7 x0 x1) r (fun e => by rw [column_turned]; exact hv e), column_turned]

end Pure

/-! ## The rows of a grid point -/

/-- Row `r` of point `t` in the whole array. -/
def rowOf (t : Fin cfg0.N) (r : Fin 2048) : Fin 8192 :=
  ⟨2048 * t.val + r.val, by have h : cfg0.N = 4 := N_0; have := t.isLt; have := r.isLt; omega⟩

variable (m : (ℓ : Loc nD τ sig) → Buf (Elt Ideal) ℓ) (c : Dev nD)

/-- The first argument on device `c`. -/
abbrev argX : FVec Ideal S8192x2048 .f32 := m ((c : Thread nD τ).loc main_arg0)
/-- The second argument on device `c`. -/
abbrev argW : FVec Ideal S2048x64 .f32 := m ((c : Thread nD τ).loc main_arg1)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem point_logits (t : Fin cfg0.N) (r : Fin 2048) (e : Fin 64) :
    k0_pay5 (iblk m c 0 t) (iblk m c 1 t) (ix2 r e) = logits (argX m c) (argW m c) (rowOf t r) e := by
  rw [logits_apply]
  unfold logits rowOf
  blk_point [iblk, V, idx t]

theorem point_row (t : Fin cfg0.N) (r : Fin 2048) :
    (fun e => k0_pay5 (iblk m c 0 t) (iblk m c 1 t) (ix2 r e)) = logits (argX m c) (argW m c) (rowOf t r) :=
  funext fun e => point_logits m c t r e

end Cert.KernelIdeal.Rounds
-- ==== Proof.Arrays.lean ====
/-
  The kernel's result arrays after the run: the blocks of the first three tile their arrays, and the count block, kept
  from point to point and written back after the last, sums the rows of all four points.
-/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelIdeal.Rounds

open Cert.KernelIdeal.Gen Cert.Router

variable (m : (ℓ : Loc nD τ sig) → Buf (Elt Ideal) ℓ) (c : Dev nD)

/-- The rows of the four points are the rows of the array. -/
theorem sum_rows (f : Fin 8192 → EReal) :
    ∑ s : Fin 4, ∑ r : Fin 2048, f ⟨2048 * s.val + r.val, by omega⟩ = ∑ r : Fin 8192, f r := by
  rw [← Fintype.sum_prod_type']
  refine Fintype.sum_equiv (finProdFinEquiv (m := 4) (n := 2048)) _ _ fun p => congrArg f (Fin.ext ?_)
  show 2048 * p.1.val + p.2.val = p.2.val + 2048 * p.1.val
  exact Nat.add_comm _ _

/-- The count before point `t`: zero before the first. -/
def tallyBefore (t : Fin cfg0.N) : Vec Ideal S64x1 .f32 :=
  if t.val % 4 = 0 then k0_pay3 (F := Ideal) else (outsAt0 m c (t.val - 1) (Nat.lt_of_le_of_lt (Nat.sub_le _ _) t.isLt)).2.2.2

/-- What point `t` leaves in the four output blocks. -/
theorem outs_eq (t : Fin cfg0.N) :
    outsAt0 m c t.val t.isLt
      = (k0_pay6 (iblk m c 0 t) (iblk m c 1 t), weights (k0_pay7 (iblk m c 0 t) (iblk m c 1 t)),
          picks (k0_pay7 (iblk m c 0 t) (iblk m c 1 t)), tally (k0_pay7 (iblk m c 0 t) (iblk m c 1 t)) (tallyBefore m c t)) := by
  unfold tallyBefore
  by_cases h : t.val % 4 = 0
  · rw [if_pos h, outsAt0_A m c t h, first_scores, first_weights, first_picks, first_tally]
  · rw [if_neg h, outsAt0_B m c t h, later_scores, later_weights, later_picks, later_tally]

/-! ## The first three arrays: row `y` of point `t`'s block is row `rowOf t y` of its array -/

theorem place2 (t : Fin cfg0.N) (y : S2048x64.Idx) : ((cfg0.win 2).blk t).view.emb y = ix2 (rowOf t (y 0)) (y 1) := by
  refine (eq_ix2 _).trans (congrArg₂ ix2 (Fin.ext ?_) (Fin.ext ?_))
  · unfold rowOf
    blk_simp [idx t]
    exact congrArg (· + _) (Nat.mul_comm _ _)
  · blk_simp [idx t]

theorem place3 (t : Fin cfg0.N) (y : S2048x8.Idx) : ((cfg0.win 3).blk t).view.emb y = ix2 (rowOf t (y 0)) (y 1) := by
  refine (eq_ix2 _).trans (congrArg₂ ix2 (Fin.ext ?_) (Fin.ext ?_))
  · unfold rowOf
    blk_simp [idx t]
    exact congrArg (· + _) (Nat.mul_comm _ _)
  · blk_simp [idx t]

theorem place4 (t : Fin cfg0.N) (y : S2048x8.Idx) : ((cfg0.win 4).blk t).view.emb y = ix2 (rowOf t (y 0)) (y 1) := by
  refine (eq_ix2 _).trans (congrArg₂ ix2 (Fin.ext ?_) (Fin.ext ?_))
  · unfold rowOf
    blk_simp [idx t]
    exact congrArg (· + _) (Nat.mul_comm _ _)
  · blk_simp [idx t]

theorem scores_array : (dats m 0 c).arrAt 2 cfg0.N = scores (argX m c) (argW m c) := by
  refine (dats m 0 c).arrAt_eq_of_covers 2 _ (by decide +kernel) fun t _ y => ?_
  blk_simp
  rw [after0_2, outs_eq]
  refine Eq.trans ?_ (congrArg (scores (argX m c) (argW m c)) (place2 t y)).symm
  refine (congrArg (k0_pay6 (iblk m c 0 t) (iblk m c 1 t)) (eq_ix2 y)).trans ?_
  exact (scores_apply _ _ (y 0) (y 1)).trans (congrArg (fun v => score v (y 1)) (point_row m c t (y 0)))

variable (hb : ∀ r e, logits (argX m c) (argW m c) r e ≠ ⊥)

include hb

theorem point_ne_bot (t : Fin cfg0.N) (r : Fin 2048) (e : Fin 64) : k0_pay5 (iblk m c 0 t) (iblk m c 1 t) (ix2 r e) ≠ (⊥ : EReal) := by
  rw [point_logits]
  exact hb _ _

theorem bestScores_array : (dats m 0 c).arrAt 3 cfg0.N = bestScores (argX m c) (argW m c) := by
  refine (dats m 0 c).arrAt_eq_of_covers 3 _ (by decide +kernel) fun t _ y => ?_
  blk_simp
  rw [after0_3, outs_eq]
  refine Eq.trans ?_ (congrArg (bestScores (argX m c) (argW m c)) (place3 t y)).symm
  refine (congrArg (weights (k0_pay7 (iblk m c 0 t) (iblk m c 1 t))) (eq_ix2 y)).trans ?_
  exact (weights_turned _ _ (y 0) (point_ne_bot m c hb t (y 0)) (y 1)).trans
    (congrArg (fun v => score v (best v (y 1))) (point_row m c t (y 0)))

theorem bestExperts_array : (dats m 0 c).arrAt 4 cfg0.N = bestExperts (argX m c) (argW m c) := by
  refine (dats m 0 c).arrAt_eq_of_covers 4 _ (by decide +kernel) fun t _ y => ?_
  blk_simp
  rw [after0_4, outs_eq]
  refine Eq.trans ?_ (congrArg (bestExperts (argX m c) (argW m c)) (place4 t y)).symm
  refine (congrArg (picks (k0_pay7 (iblk m c 0 t) (iblk m c 1 t))) (eq_ix2 y)).trans ?_
  exact (picks_turned _ _ (y 0) (point_ne_bot m c hb t (y 0)) (y 1)).trans
    (congrArg (fun v => BitVec.ofNat 32 (best v (y 1)).val) (point_row m c t (y 0)))

/-! ## The counts -/

theorem tally_sum (t : Fin cfg0.N) (acc : Vec Ideal S64x1 .f32) (e : Fin 64) :
    tally (k0_pay7 (iblk m c 0 t) (iblk m c 1 t)) acc (ix2 e 0)
      = acc (ix2 e 0) + ∑ r : Fin 2048, chosen (argX m c) (argW m c) e (rowOf t r) := by
  rw [tally_apply]
  refine congrArg (acc (ix2 e 0) + ·) (Finset.sum_congr rfl fun r _ => ?_)
  rw [taken_turned _ _ r (point_ne_bot m c hb t r), point_row]
  rfl

/-- The count after point `n` sums the rows of the points up to it. -/
theorem count_apply (e : Fin 64) : ∀ (n : Nat) (h : n < cfg0.N),
    (outsAt0 m c n h).2.2.2 (ix2 e 0)
      = ∑ s : Fin (n + 1), ∑ r : Fin 2048, chosen (argX m c) (argW m c) e (rowOf ⟨s.val, lt_of_lt_of_le s.isLt h⟩ r)
  | 0, h => by
    rw [outs_eq m c ⟨0, h⟩]
    show tally _ _ _ = _
    rw [tally_sum m c hb, Fin.sum_univ_one]
    refine (congrArg (· + _) ?_).trans (zero_add _)
    unfold tallyBefore
    rw [if_pos (show (⟨0, h⟩ : Fin cfg0.N).val % 4 = 0 from rfl)]
    pointwise [k0_pay3]
  | n + 1, h => by
    have hN : cfg0.N = 4 := N_0
    have hB : ¬(⟨n + 1, h⟩ : Fin cfg0.N).val % 4 = 0 := by dsimp only; omega
    rw [outs_eq m c ⟨n + 1, h⟩]
    show tally _ _ _ = _
    rw [tally_sum m c hb]
    unfold tallyBefore
    rw [if_neg hB]
    refine (congrArg (· + _) (count_apply e n (Nat.lt_of_succ_lt h))).trans ?_
    exact (Fin.sum_univ_castSucc fun s : Fin (n + 2) =>
      ∑ r : Fin 2048, chosen (argX m c) (argW m c) e (rowOf ⟨s.val, lt_of_lt_of_le s.isLt h⟩ r)).symm

/-- The count array, as the column the kernel keeps it in. -/
theorem loads_array : (dats m 0 c).arrAt 5 cfg0.N = fun i : S64x1.Idx => loads (argX m c) (argW m c) (ix1 (i 0)) := by
  refine (dats m 0 c).arrAt_eq_of_after_last 5 t0_3 (by decide +kernel) _ fun j => ?_
  blk_simp
  rw [after0_5]
  refine (congrArg (outsAt0 m c t0_3.val t0_3.isLt).2.2.2 (?_ : j = ix2 (j 0) 0)).trans ?_
  · exact (eq_ix2 j).trans (congrArg (ix2 (j 0)) (Subsingleton.elim _ _))
  · exact (count_apply m c hb (j 0) 3 t0_3.isLt).trans (sum_rows fun r => chosen (argX m c) (argW m c) (j 0) r)

end Cert.KernelIdeal.Rounds
-- ==== Proof.KernelRun.lean ====
/-
  The kernel's run: its four results are the specification's, its arguments as at the start.
-/
module

public import proofs.«01_k».proof.Proof.Arrays
public import Idealize.ShloMosaic.Lib.Claim

@[expose] public section

noncomputable section

open Idealize.ShloMosaic Idealize.ShloMosaic.TcCoe Idealize.SL.Sem

namespace Cert.KernelIdeal.Rounds

open Cert.KernelIdeal.Gen Cert.Router

variable (m : (ℓ : Loc nD τ sig) → Buf (Elt Ideal) ℓ) (g : Dev nD → PrngReg)

/-- A column reshaped to one axis keeps its entries. -/
theorem flat_column (v : S64x1.Idx → EReal) (f : S64.Idx → EReal) (hv : v = fun i => f (ix1 (i 0))) :
    shapeCast S64 v shapeCasts_S64x1_S64 = f := by
  funext i
  obtain ⟨e, rfl⟩ : ∃ e : Fin 64, i = ix1 e := ⟨i 0, eq_ix1 i⟩
  rw [hv]
  exact shapeCast_apply _ _ (ix1 e) (ix2 e 0) (by
    rw [Shape.rowMajor_val_two, Shape.rowMajor_val_one]; show e.val * 1 + 0 = e.val; omega)

/-- After the region, the last host line leaves the reshaped counts in the fourth result. -/
theorem after_loads (c : Dev nD) :
    Pipeline.afterTail₀ cfgs (dats m) 0 (V0 m) [hostOps1] c main_v0_3
      = shapeCast S64 ((dats m 0 c).arrAt 5 cfg0.N) shapeCasts_S64x1_S64 := by
  unfold Pipeline.afterTail₀
  rw [List.flatten_singleton, hostOps1]
  simp only [StableHlo.after_cons, StableHlo.after_nil]
  refine (StableHlo.reshape_result _ _ _ _ _ _ _).trans ?_
  exact congrArg (fun v => shapeCast S64 v shapeCasts_S64x1_S64) (Pipeline.withArrays_arr spec0 launch0.win.arr_inj c _ _ 5)

theorem kernel_run (hb : ∀ (c : Dev nD) r e, logits (argX m c) (argW m c) r e ≠ ⊥) :
    θ_run (defs (F := Ideal)) (onTc (τ := τ) (main (F := Ideal))) ⟨m, fun _ => 0, g⟩ (fun r => ∀ c : Dev nD,
      r.2.mem ((c.tc : Thread nD τ).loc main_v0_0) = scores (argX m c) (argW m c)
      ∧ r.2.mem ((c.tc : Thread nD τ).loc main_v0_1) = bestScores (argX m c) (argW m c)
      ∧ r.2.mem ((c.tc : Thread nD τ).loc main_v0_2) = bestExperts (argX m c) (argW m c)
      ∧ r.2.mem ((c.tc : Thread nD τ).loc main_v0_3) = loads (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 2).trans (scores_array m c), ((h c).1 3).trans (bestScores_array m c (hb c)),
      ((h c).1 4).trans (bestExperts_array m c (hb c)),
      ((h c).2 main_v0_3 (by decide)).trans ((after_loads m c).trans (flat_column _ _ (loads_array m c (hb c)))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m g)

end Cert.KernelIdeal.Rounds
-- ==== Proof.Softmax.lean ====
/-
  The softmax of real logits orders them as the logits do.
-/
module

public import proofs.«01_k».proof.Proof.Spec

@[expose] public section

noncomputable section

open Idealize.ShloMosaic

namespace Cert.Router

/-- The greatest of a row is one of its entries. -/
theorem peak_mem (v : Fin 64 → EReal) : peak v = v (nth v 0) := by
  have h := fold_max_remaining v 0
  rw [show ((0 : Fin 64).val) = 0 from rfl, remaining_zero] at h
  exact h

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A real row's scores are a positive multiple of the exponentials of its logits. -/
theorem score_real (l : Fin 64 → ℝ) :
    ∃ a S : ℝ, 0 < S ∧ ∀ e, score (fun e => (l e : EReal)) e = ((Real.exp (l e - a) / S : ℝ) : EReal) := by
  have hx : ∀ e, Ideal.exp ((l e : EReal) - peak fun e => (l e : EReal))
      = ((Real.exp (l e - l (nth (fun e => (l e : EReal)) 0)) : ℝ) : EReal) := fun e => by
    rw [peak_mem, ← EReal.coe_sub, Ideal.exp_coe]
  have hS : 0 < ∑ e, Real.exp (l e - l (nth (fun e => (l e : EReal)) 0)) :=
    Finset.sum_pos (fun e _ => Real.exp_pos _) ⟨0, Finset.mem_univ _⟩
  refine ⟨l (nth (fun e => (l e : EReal)) 0), _, hS, fun e => ?_⟩
  unfold score mass
  simp only [hx]
  rw [← coe_sum, Ideal.div_coe hS.ne', ← EReal.coe_mul, mul_one_div]

theorem score_lt_score (l : Fin 64 → ℝ) (a b : Fin 64) :
    score (fun e => (l e : EReal)) a < score (fun e => (l e : EReal)) b ↔ (l a : EReal) < (l b : EReal) := by
  obtain ⟨p, S, hS, h⟩ := score_real l
  rw [h, h, EReal.coe_lt_coe_iff, EReal.coe_lt_coe_iff, div_lt_div_iff_of_pos_right hS, Real.exp_lt_exp,
    sub_lt_sub_iff_right]

theorem best_score (l : Fin 64 → ℝ) (k : Fin 8) : best (score fun e => (l e : EReal)) k = best (fun e => (l e : EReal)) k :=
  nth_congr _ (score_lt_score l) _

end Cert.Router
-- ==== Proof.Counts.lean ====
/-
  How many of a row's eight best places an expert takes, and the sum a fold of ones counts.
-/
module

public import proofs.«01_k».proof.Proof.Softmax

@[expose] public section

noncomputable section

open Idealize.ShloMosaic

namespace Cert.Router

/-- Adding one for each element that satisfies `P` counts them. -/
theorem fold_ones {ι : Type} (P : ι → Prop) [DecidablePred P] (l : List ι) (z : Nat) :
    l.foldl (fun a n => if P n then IntOp.addi a 1#32 else a) (BitVec.ofNat 32 z)
      = BitVec.ofNat 32 (z + (l.map fun n => if P n then 1 else 0).sum) := by
  induction l generalizing z with
  | nil => rfl
  | cons n l ih =>
    rw [List.foldl_cons, List.map_cons, List.sum_cons, ← Nat.add_assoc, ← ih]
    refine congrArg (fun a => l.foldl _ a) ?_
    by_cases hp : P n
    · rw [if_pos hp, if_pos hp]
      exact (BitVec.ofNat_add z 1).symm
    · rw [if_neg hp, if_neg hp, Nat.add_zero]

variable (v : Fin 64 → EReal) (e : Fin 64)

/-- An expert takes place `k` of the best eight exactly when its rank is `k`. -/
theorem best_eq_iff (k : Fin 8) : best v k = e ↔ rank v e = k.val := by
  constructor
  · intro h
    rw [← h]
    exact rank_nth v _
  · exact fun h => nth_eq v (k := Fin.castLE (by decide) k) h

/-- One place of the best eight, or none. -/
theorem count_best : (∑ k : Fin 8, if best v k = e then 1 else 0) = if rank v e < 8 then 1 else 0 := by
  simp only [best_eq_iff]
  by_cases h : rank v e < 8
  · rw [if_pos h, Finset.sum_eq_single_of_mem (⟨rank v e, h⟩ : Fin 8) (Finset.mem_univ _)
      fun k _ hk => if_neg fun he => hk (Fin.ext he.symm)]
    exact if_pos rfl
  · rw [if_neg h]
    exact Finset.sum_eq_zero fun k _ => if_neg fun he : rank v e = k.val => h (he ▸ k.isLt)

/-- The entries of an 8192 × 8 table, row after row. -/
theorem sum_rows (f : Fin 65536 → Nat) :
    ∑ n, f n = ∑ r : Fin 8192, ∑ k : Fin 8, f ⟨k.val + 8 * r.val, by omega⟩ := by
  rw [← Fintype.sum_prod_type', ← Equiv.sum_comp (finProdFinEquiv (m := 8192) (n := 8))]
  rfl

end Cert.Router
-- ==== Proof.TopK.lean ====
/-
  `top_k` along the rows of a matrix: the entry in place `k` is the one of rank `k`.
-/
module

public import proofs.«01_k».proof.Proof.Ranks
public import Idealize.ShloMosaic.PureOps.Ideal
public import Idealize.ShloMosaic.Lib.Pointwise

@[expose] public section

noncomputable section

open Idealize.ShloMosaic

namespace Cert.Router

variable {m n q : Nat}

theorem along_row (r : Fin m) (e' e : Fin n) :
    Shape.Idx.along (s := ⟨2, ![m, n]⟩) (ix2 r e') 1 e = ix2 r e := by
  funext a
  match a with
  | ⟨0, _⟩ => rfl
  | ⟨1, _⟩ => rfl

section

variable {α : Type} (gt : α → α → BitVec 1) (y : (⟨2, ![m, n]⟩ : Shape).Idx → α)
  (h : (⟨2, ![m, n]⟩ : Shape).Slices (fun _ => 0) ⟨2, ![m, q]⟩) (r : Fin m) (k : Fin q) (hq : q ≤ n)

/-- The row's stable sort. -/
def sortRow : Fin n → Fin n := sortedFrom fun a b => gt (y (ix2 r a)) (y (ix2 r b)) == 1#1

/-- Where the entry in place `z` of a row comes from. -/
theorem sorted_place (z : Fin n) :
    Shape.Idx.along (s := ⟨2, ![m, n]⟩) (ix2 r z) 1
      (sortedFrom (fun a b : Fin n =>
          gt (y (Shape.Idx.along (s := ⟨2, ![m, n]⟩) (ix2 r z) 1 a))
              (y (Shape.Idx.along (s := ⟨2, ![m, n]⟩) (ix2 r z) 1 b)) == 1#1) z)
      = ix2 r (sortRow gt y r z) :=
  (along_row r z _).trans (congrArg (ix2 r) (congrFun (congrArg sortedFrom (funext fun a => funext fun b =>
    congrArg₂ (fun i j => gt (y i) (y j) == 1#1) (along_row r z a) (along_row r z b))) z))

/-- The slice of the first places keeps the row and the place. -/
theorem slice_apply {β : Type} (v : (⟨2, ![m, n]⟩ : Shape).Idx → β) :
    extractStridedSlice ⟨2, ![m, q]⟩ (fun _ => 0) v h (ix2 r k) = v (ix2 r (Fin.castLE hq k)) :=
  congrArg v (funext fun a => match a with
    | ⟨0, _⟩ => Fin.ext (Nat.zero_add _)
    | ⟨1, _⟩ => Fin.ext (Nat.zero_add _))

theorem topK_value :
    (Host.topK ⟨2, ![m, q]⟩ 1 gt y h).1 (ix2 r k) = y (ix2 r (sortRow gt y r (Fin.castLE hq k))) := by
  unfold Host.topK
  dsimp only
  rw [slice_apply h r k hq]
  unfold Host.sort2
  rw [dif_pos (show 1 < 2 by decide)]
  exact congrArg y (sorted_place gt y r _)

theorem topK_index :
    (Host.topK ⟨2, ![m, q]⟩ 1 gt y h).2 (ix2 r k) = BitVec.ofNat 32 (sortRow gt y r (Fin.castLE hq k)).val := by
  unfold Host.topK
  dsimp only
  rw [slice_apply h r k hq]
  unfold Host.sort2
  rw [dif_pos (show 1 < 2 by decide)]
  exact congrArg (fun i : (⟨2, ![m, n]⟩ : Shape).Idx => BitVec.ofNat 32 (i 1).val) (sorted_place gt y r _)

end

/-- Sorting by the descending order of the values puts the entry of rank `z` in place `z`. -/
theorem sortRow_eq_nth (y : FVec Ideal ⟨2, ![m, n]⟩ .f32) (r : Fin m) (z : Fin n) :
    sortRow (FloatOps.cmpfTotal (F := Ideal) (φ := .f32) .gt) y r z = nth (fun e => y (ix2 r e)) z := by
  refine sortedFrom_eq_nth (fun e => y (ix2 r e)) _ (fun a b => ?_) z
  show (BitVec.ofBool (decide (y (ix2 r a) > y (ix2 r b))) == 1#1) = true ↔ _
  by_cases hl : (y (ix2 r b) : EReal) < y (ix2 r a)
  · simp [hl]
  · simp [hl]

end Cert.Router
-- ==== Proof.RefScores.lean ====
/-
  The reference's first three results are the specification's.
-/
module

public import proofs.«01_k».proof.Proof.Softmax
public import proofs.«01_k».proof.Proof.TopK
public import proofs.«01_k».proof.Proof.Gen.ReferenceIdeal.Read
public import Idealize.ShloMosaic.Lib.Pointwise

@[expose] public section

set_option maxRecDepth 16384

noncomputable section

open Idealize.ShloMosaic

namespace Cert.Router

open Cert.ReferenceIdeal.Read

variable (x : FVec Ideal Cert.KernelIdeal.S8192x2048 .f32) (w : FVec Ideal Cert.KernelIdeal.S2048x64 .f32)

theorem ref_logits (r : Fin 8192) (e : Fin 64) : val_main_v0 (F := Ideal) x w (ix2 r e) = logits x w r e := by
  rw [val_main_v0_apply]
  refine Finset.sum_congr rfl fun k _ => ?_
  congr 2 <;> funext a <;> (match a with | ⟨0, _⟩ => rfl | ⟨1, _⟩ => rfl)

theorem ref_peak (r : Fin 8192) : val_main_v1 (F := Ideal) x w (ix1 r) = peak (logits x w r) := by
  pointwise [val_main_v1, val_main_cst]
  simp only [ref_logits]
  rfl

theorem ref_greatest (r : Fin 8192) (e : Fin 64) : val_main_v5 (F := Ideal) x w (ix2 r e) = peak (logits x w r) := by
  pointwise [val_main_v5, val_main_v4, val_main_v3, val_main_v2, val_main_cst_0]
  rw [ref_peak]
  exact max_eq_right bot_le

theorem ref_exp (r : Fin 8192) (e : Fin 64) :
    val_main_v7 (F := Ideal) x w (ix2 r e) = Ideal.exp (logits x w r e - peak (logits x w r)) := by
  pointwise [val_main_v7, val_main_v6]
  rw [ref_logits, ref_greatest]

theorem ref_mass (r : Fin 8192) (e : Fin 64) : val_main_v10 (F := Ideal) x w (ix2 r e) = mass (logits x w r) := by
  pointwise [val_main_v10, val_main_v9, val_main_v8, val_main_cst_1]
  simp only [ref_exp]
  rfl

theorem ref_score (r : Fin 8192) (e : Fin 64) : val_main_v11 (F := Ideal) x w (ix2 r e) = score (logits x w r) e := by
  pointwise [val_main_v11]
  rw [ref_exp, ref_mass]
  rfl

/-- Result 1. -/
theorem ref_scores : val_main_v11 (F := Ideal) x w = scores x w := by
  funext i
  rw [← ix2_eta i]
  exact ref_score x w _ _

/-- Every logit is a real number. -/
def RealLogits : Prop := ∀ r, ∃ l : Fin 64 → ℝ, ∀ e, logits x w r e = (l e : EReal)

variable (hl : RealLogits x w)
include hl

theorem ref_best (r : Fin 8192) (k : Fin 8) :
    nth (fun e => val_main_v11 (F := Ideal) x w (ix2 r e)) (Fin.castLE (by decide) k) = best (logits x w r) k := by
  obtain ⟨l, h⟩ := hl r
  have hv : logits x w r = fun e => (l e : EReal) := funext h
  simp only [ref_score]
  rw [hv]
  exact best_score l k

theorem ref_bestScore (r : Fin 8192) (k : Fin 8) :
    val_main_values (F := Ideal) x w (ix2 r k) = score (logits x w r) (best (logits x w r) k) := by
  unfold val_main_values
  refine (topK_value _ _ _ _ _ (by decide)).trans ?_
  rw [sortRow_eq_nth, ref_best x w hl, ref_score]

theorem ref_bestExpert (r : Fin 8192) (k : Fin 8) :
    val_main_indices (F := Ideal) x w (ix2 r k) = BitVec.ofNat 32 (best (logits x w r) k).val := by
  unfold val_main_indices
  refine (topK_index _ _ _ _ _ (by decide)).trans ?_
  rw [sortRow_eq_nth, ref_best x w hl]

/-- Result 2. -/
theorem ref_bestScores : val_main_values (F := Ideal) x w = bestScores x w := by
  funext i
  rw [← ix2_eta i]
  exact ref_bestScore x w hl _ _

/-- Result 3. -/
theorem ref_bestExperts : val_main_indices (F := Ideal) x w = bestExperts x w := by
  funext i
  rw [← ix2_eta i]
  exact ref_bestExpert x w hl _ _

end Cert.Router
-- ==== Proof.RefLoads.lean ====
/-
  The reference's fourth result: the scatter of ones at the best experts of every row counts the rows that chose each.
-/
module

public import proofs.«01_k».proof.Proof.Counts
public import proofs.«01_k».proof.Proof.RefScores
public import Idealize.ShloMosaic.Lib.Routing.OpsPair
public import Idealize.ShloMosaic.Lib.StableHlo.Predicate

@[expose] public section

set_option maxRecDepth 16384

noncomputable section

open Idealize.ShloMosaic

namespace Cert.Router

open Cert.ReferenceIdeal.Read Cert.ReferenceIdeal Cert.ReferenceIdeal.Gen

/-- The wrap of a negative index leaves the number of an expert as it is. -/
theorem wrap_expert (b : Fin 64) :
    Scalar.select (IntOp.cmpi .slt (IntOp.maxsi 0#32 (BitVec.ofNat 32 b.val)) 0#32)
        (IntOp.addi (IntOp.maxsi 0#32 (BitVec.ofNat 32 b.val)) 64#32) (IntOp.maxsi 0#32 (BitVec.ofNat 32 b.val))
      = BitVec.ofNat 32 b.val := by
  revert b
  decide

section

variable (n : Fin 65536) (idx : IVec S65536x1 32)

theorem scatter_window : scatter_S64_S65536x1_S65536_n_0_0_1.window (ix1 n) 0 = 0 := by
  unfold ScatterDims.window
  exact dif_neg (by decide)

theorem scatter_start :
    scatter_S64_S65536x1_S65536_n_0_0_1.start (ix1 n) idx 0 = (idx (ix2 n 0)).toInt := by
  unfold ScatterDims.start
  rw [dif_pos (by decide)]
  refine congrArg (fun i => (idx i).toInt) (funext fun a => ?_)
  match a with
  | ⟨0, _⟩ => rfl
  | ⟨1, _⟩ => rfl

theorem scatter_lands (b e : Fin 64) (hb : idx (ix2 n 0) = BitVec.ofNat 32 b.val) :
    scatter_S64_S65536x1_S65536_n_0_0_1.resultIdx? (ix1 n) idx = some (ix1 e) ↔ b = e := by
  rw [Routing.resultIdx?_eq_some]
  have hs := scatter_start n idx
  rw [hb, StableHlo.Predicate.toInt_ofNat_small _ (by omega)] at hs
  constructor
  · intro h
    have h0 := h 0
    rw [scatter_window, hs] at h0
    change ((b.val : Int) + 0 = e.val) at h0
    exact Fin.ext (by omega)
  · rintro rfl a
    obtain rfl : a = 0 := Subsingleton.elim (α := Fin 1) _ _
    rw [scatter_window, hs]
    rfl

end

variable (x : FVec Ideal Cert.KernelIdeal.S8192x2048 .f32) (w : FVec Ideal Cert.KernelIdeal.S2048x64 .f32)
variable (hl : RealLogits x w)
include hl

theorem ref_index (r : Fin 8192) (k : Fin 8) :
    val_main_v20 (F := Ideal) x w (ix2 ⟨k.val + 8 * r.val, by omega⟩ 0) = BitVec.ofNat 32 (best (logits x w r) k).val := by
  have hb : val_main_v12 (F := Ideal) x w (ix1 ⟨k.val + 8 * r.val, by omega⟩)
      = BitVec.ofNat 32 (best (logits x w r) k).val := by
    rw [val_main_v12_apply, ← ref_bestExpert x w hl r k]
    refine congrArg (val_main_indices (F := Ideal) x w) (funext fun a => ?_)
    match a with
    | ⟨0, _⟩ => exact Fin.ext (by show (k.val + 8 * r.val) / 8 = r.val; omega)
    | ⟨1, _⟩ => exact Fin.ext (by show (k.val + 8 * r.val) % 8 = k.val; omega)
  pointwise [val_main_v20, val_main_v19, val_main_v18, val_main_v17, val_main_v16, val_main_v15, val_main_v14,
    val_main_call0_v1, val_main_call0_v0, val_main_c_2, val_main_c_3, val_main_c_4]
  rw [hb]
  exact wrap_expert _

/-- The updates that land on an expert, counted. -/
theorem ref_count (e : Fin 64) :
    val_main_v22 (F := Ideal) x w (ix1 e)
      = BitVec.ofNat 32 (∑ r : Fin 8192, if rank (logits x w r) e < 8 then 1 else 0) := by
  unfold val_main_v22
  rw [Routing.scatter_at]
  have h1 : ∀ j, val_main_v21 (F := Ideal) j = 1#32 := fun j => rfl
  have h0 : val_main_v13 (F := Ideal) (ix1 e) = BitVec.ofNat 32 0 := rfl
  simp only [h1, h0]
  rw [fold_ones, Nat.zero_add, ← Fin.sum_univ_def]
  refine congrArg (BitVec.ofNat 32) ?_
  rw [Equiv.sum_comp S65536.rowMajor.symm fun j =>
    if scatter_S64_S65536x1_S65536_n_0_0_1.resultIdx? j (val_main_v20 (F := Ideal) x w) = some (ix1 e) then 1 else 0]
  rw [← Equiv.sum_comp (⟨fun n => ix1 n, fun j => j 0, fun n => rfl, fun j => (eq_ix1 j).symm⟩ : Fin 65536 ≃ S65536.Idx),
    sum_rows]
  refine Finset.sum_congr rfl fun r _ => ?_
  rw [← count_best]
  exact Finset.sum_congr rfl fun k _ => if_congr (scatter_lands _ _ _ e (ref_index x w hl r k)) rfl rfl

theorem ref_load (e : Fin 64) : val_main_v23 (F := Ideal) x w (ix1 e) = loads x w (ix1 e) := by
  have hle : (∑ r : Fin 8192, if rank (logits x w r) e < 8 then 1 else 0) < 2 ^ 31 := by
    refine lt_of_le_of_lt (Finset.sum_le_card_nsmul _ _ 1 fun r _ => ?_) (by simp)
    split <;> omega
  show ((((val_main_v22 (F := Ideal) x w (ix1 e)).toInt : ℝ)) : EReal) = _
  rw [ref_count x w hl, StableHlo.Predicate.toInt_ofNat_small _ hle]
  refine Eq.trans (b := ∑ r : Fin 8192, (((if rank (logits x w r) e < 8 then 1 else 0 : ℕ) : ℝ) : EReal)) ?_ ?_
  · rw [← coe_sum, Int.cast_natCast, Nat.cast_sum]
  · refine Finset.sum_congr rfl fun r _ => ?_
    show _ = if rank (logits x w r) e < 8 then 1 else 0
    by_cases h : rank (logits x w r) e < 8
    · rw [if_pos h, if_pos h, Nat.cast_one, EReal.coe_one]
    · rw [if_neg h, if_neg h, Nat.cast_zero, EReal.coe_zero]

/-- Result 4. -/
theorem ref_loads : val_main_v23 (F := Ideal) x w = loads x w := by
  funext i
  rw [eq_ix1 i]
  exact ref_load x w hl _

end Cert.Router
-- ==== Proof.RefRun.lean ====
/-
  The reference's run: its four results are the specification's, its arguments and its counters as at the start.
-/
module

public import proofs.«01_k».proof.Proof.RefLoads
public import Idealize.ShloMosaic.Lib.Claim
public import Idealize.ShloMosaic.Lib.Quiescent

@[expose] public section

noncomputable section

open Idealize.ShloMosaic Idealize.ShloMosaic.TcCoe Idealize.SL.Sem

namespace Cert.Router

open Cert.ReferenceIdeal Cert.ReferenceIdeal.Gen Cert.ReferenceIdeal.Read

variable (m : (ℓ : Loc nD τ sig) → Buf (Elt Ideal) ℓ) (g : Dev nD → PrngReg)

/-- The reference's arguments on a device. -/
abbrev refX (c : Dev nD) : FVec Ideal Cert.KernelIdeal.S8192x2048 .f32 := m ((c.tc : Thread nD τ).loc main_arg0)

abbrev refW (c : Dev nD) : FVec Ideal Cert.KernelIdeal.S2048x64 .f32 := m ((c.tc : Thread nD τ).loc main_arg1)

theorem ref_frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2, sem_eq_zero_of_no_sems rfl _⟩) (Value.run m g)

theorem ref_run (hl : ∀ c, RealLogits (refX m c) (refW m c)) :
    θ_run (defs (F := Ideal)) (onTc (τ := τ) (main (F := Ideal))) ⟨m, fun _ => 0, g⟩ (fun r => ∀ c : Dev nD,
      r.2.mem ((c.tc : Thread nD τ).loc main_v11) = scores (refX m c) (refW m c)
      ∧ r.2.mem ((c.tc : Thread nD τ).loc main_values) = bestScores (refX m c) (refW m c)
      ∧ r.2.mem ((c.tc : Thread nD τ).loc main_indices) = bestExperts (refX m c) (refW m c)
      ∧ r.2.mem ((c.tc : Thread nD τ).loc main_v23) = loads (refX m c) (refW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨h0, h1, h2, h3, h4⟩ := h c
    exact ⟨h0.trans ((val_main_v11_eq _ _).trans (ref_scores _ _)),
      h1.trans ((val_main_values_eq _ _).trans (ref_bestScores _ _ (hl c))),
      h2.trans ((val_main_indices_eq _ _).trans (ref_bestExperts _ _ (hl c))),
      h3.trans ((val_main_v23_eq m c).trans (ref_loads _ _ (hl c))), h4⟩) (Value.run m g)

end Cert.Router
-- ==== Proof.Finite.lean ====
/-
  What the precondition gives: every element of the two arguments is a real number, so every logit is one.
-/
module

public import proofs.«01_k».proof.Proof.RefScores
public import proofs.«01_k».proof.Pre_finite_arguments
public import Idealize.ShloMosaic.Lib.ReduceAll

@[expose] public section

noncomputable section

open Idealize.ShloMosaic

namespace Cert.Router

/-- A number below plus infinity in absolute value is real. -/
theorem real_of_abs_lt (a : EReal) (h : BitVec.ofBool (decide (max a (-a) < ⊤)) = 1#1) : ∃ r : ℝ, a = r := by
  have hlt : max a (-a) < ⊤ := by
    by_contra hn
    rw [decide_eq_false hn] at h
    exact absurd h (by decide)
  have h1 : a ≠ ⊤ := ((le_max_left _ _).trans_lt hlt).ne
  have h2 : a ≠ ⊥ := fun e => by
    rw [e] at hlt
    exact absurd ((le_max_right _ _).trans_lt hlt) (by simp)
  exact ⟨a.toReal, (EReal.coe_toReal h1 h2).symm⟩

section

variable [Cert.Pre_finite_arguments.Facts] (x : FVec Ideal Cert.KernelIdeal.S8192x2048 .f32)
  (w : FVec Ideal Cert.KernelIdeal.S2048x64 .f32)
  (h : Cert.Pre_finite_arguments.fn (F := Ideal) x w = fun _ => 1#1)
include h

theorem arguments_real : (∀ i, ∃ r : ℝ, x i = r) ∧ ∀ i, ∃ r : ℝ, w i = r := by
  haveI : Subsingleton Cert.Pre_finite_arguments.S_.Idx := ⟨fun a b => funext fun d => d.elim0⟩
  have h0 := IntOp.andi_eq_one.1 (congrFun h fun d => d.elim0)
  exact ⟨fun i => real_of_abs_lt _ (Host.reduce_andi_all _ _ _ _ _ h0.1 i),
    fun i => real_of_abs_lt _ (Host.reduce_andi_all _ _ _ _ _ h0.2 i)⟩

theorem logits_real : RealLogits x w := fun r => by
  obtain ⟨hx, hw⟩ := arguments_real x w h
  choose f hf using hx
  choose g hg using hw
  refine ⟨fun e => ∑ k : Fin 2048, f (ix2 r k) * g (ix2 k e), fun e => ?_⟩
  rw [coe_sum]
  exact Finset.sum_congr rfl fun k _ => by rw [hf, hg, EReal.coe_mul]

theorem logits_ne_bot (r : Fin 8192) (e : Fin 64) : logits x w r e ≠ ⊥ := by
  obtain ⟨l, hl⟩ := logits_real x w h r
  rw [hl]
  exact EReal.coe_ne_bot _

end

end Cert.Router
-- ==== Proof.lean ====
/-
  The claim: the frames of the kernel, of the kernel over the extended reals and of the reference; that the kernel's
  idealization preserves it; and that the kernel and the reference leave equal results, all four, on finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_arguments
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefRun
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Router
open Cert.KernelIdeal.Rounds (argX argW kernel_run)

local instance : Cert.Pre_finite_arguments.Facts := Cert.Pre_finite_arguments.Gen.facts

/-- On finite arguments the kernel and the reference leave the same scores, the same eight best scores of each row, the
    same experts and the same tokens per expert: those of the specification. -/
theorem algebraic : Cert.algebraic_KernelIdeal_ReferenceIdeal_pre_finite_arguments := by
  intro m g m' g' hpre hagree
  have hx : ∀ c, refX m' c = argX m c := fun c => (hagree c).1
  have hw : ∀ c, refW m' c = argW m c := fun c => (hagree c).2
  refine ⟨fun c => scores (argX m c) (argW m c), fun c => bestScores (argX m c) (argW m c),
    fun c => bestExperts (argX m c) (argW m c), fun c => loads (argX m c) (argW m c),
    kernel_run m g fun c r e => logits_ne_bot _ _ (hpre c) r e, ?_⟩
  have h := ref_run m' g' fun c => by
    rw [hx c, hw c]
    exact logits_real _ _ (hpre c)
  refine (θ_run _ _ _).mono (fun r hr c => ?_) h
  have hc := hr c
  rw [hx c, hw c] at hc
  exact hc

/-- The claim. -/
theorem claim : Cert.Claim :=
  ⟨Cert.Kernel.Gen.facts, Cert.KernelIdeal.Gen.facts, Cert.ReferenceIdeal.Gen.facts, Cert.Pre_finite_arguments.Gen.facts,
    fun m g _ => Cert.Kernel.Gen.frame m g, fun m g _ => Cert.KernelIdeal.Gen.frame m g,
    fun m g _ => Cert.KernelIdeal.Gen.frame m g, fun m g _ => ref_frame m g, fun m g _ => ref_frame m g, trivial, algebraic⟩

end Cert.Proof
